-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S11008x1024 : Shape := ⟨2, ![11008, 1024]⟩
abbrev S1024x11008 : Shape := ⟨2, ![1024, 11008]⟩
abbrev S1024x1024 : Shape := ⟨2, ![1024, 1024]⟩
abbrev S256x4096 : Shape := ⟨2, ![256, 4096]⟩
abbrev S256x32x128 : Shape := ⟨3, ![256, 32, 128]⟩
abbrev S256x32x128x1 : Shape := ⟨4, ![256, 32, 128, 1]⟩
abbrev S256x1024 : Shape := ⟨2, ![256, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .i8⟩
  | .hbm, ⟨1, _⟩ => ⟨S11008x1024, .i8⟩
  | .hbm, ⟨2, _⟩ => ⟨S1024x11008, .i32⟩
  | .local _ .vmem, ⟨0, _⟩ => ⟨S1024x4096, .i8⟩
  | .local _ .vmem, ⟨1, _⟩ => ⟨S1024x1024, .i8⟩
  | .local _ .vmem, ⟨2, _⟩ => ⟨S1024x1024, .i8⟩
  | .local _ .vmem, ⟨3, _⟩ => ⟨S1024x1024, .i32⟩
  | .local _ .vmem, ⟨4, _⟩ => ⟨S1024x1024, .i32⟩
  | .local _ .vmem, ⟨5, _⟩ => ⟨S1024x4096, .bf16⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x4096 : Shape := ⟨2, ![1024, 4096]⟩
abbrev S11008x1024 : Shape := ⟨2, ![11008, 1024]⟩
abbrev S_ : Shape := ⟨0, ![]⟩
abbrev S11008x256x1x4 : Shape := ⟨4, ![11008, 256, 1, 4]⟩
abbrev S4 : Shape := ⟨1, ![4]⟩
abbrev S1x1x4x1 : Shape := ⟨4, ![1, 1, 4, 1]⟩
abbrev S11008x256x4x4 : Shape := ⟨4, ![11008, 256, 4, 4]⟩
abbrev S11008x4096 : Shape := ⟨2, ![11008, 4096]⟩
abbrev S1024x1x4096 : Shape := ⟨3, ![1024, 1, 4096]⟩
abbrev S1x11008x4096 : Shape := ⟨3, ![1, 11008, 4096]⟩
abbrev S1024x11008x4096 : Shape := ⟨3, ![1024, 11008, 4096]⟩
abbrev S1024x11008 : Shape := ⟨2, ![1024, 11008]⟩

abbrev nBuf : Space → Nat
  | .hbm => 29
  | .vmem => 0
  | .smem => 0
  | _ => 0

abbrev bufTy : (tb : Table) → Fin (tcTables nBuf tb) → BufTy
  | .hbm, ⟨0, _⟩ => ⟨S1024x4096, .i8⟩
  | .hbm, ⟨1, _⟩ => ⟨S11008x1024, .i8⟩
  | .hbm, ⟨2, _⟩ => ⟨S11008x1024, .i32⟩
  | .hbm, ⟨3, _⟩ => ⟨S_, .i32⟩
  | .hbm, ⟨4, _⟩ => ⟨S11008x1024, .i32⟩
  | .hbm, ⟨5, _⟩ => ⟨S11008x1024, .i32⟩
  | .hbm, ⟨6, _⟩ => ⟨S11008x256x1x4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x1x4x1, .i32⟩
  | .hbm, ⟨12, _⟩ => ⟨S11008x256x4x4, .i32⟩
  | .hbm, ⟨13, _⟩ => ⟨S11008x256x4x4, .i32⟩
  | .hbm, ⟨14, _⟩ => ⟨S11008x256x4x4, .i32⟩
  | .hbm, ⟨15, _⟩ => ⟨S_, .i32⟩
  | .hbm, ⟨16, _⟩ => ⟨S11008x256x4x4, .i32⟩
  | .hbm, ⟨17, _⟩ => ⟨S11008x256x4x4, .i32⟩
  | .hbm, ⟨18, _⟩ => ⟨S11008x4096, .i32⟩
  | .hbm, ⟨19, _⟩ => ⟨S11008x4096, .i8⟩
  | .hbm, ⟨20, _⟩ => ⟨S1024x4096, .i32⟩
  | .hbm, ⟨21, _⟩ => ⟨S1024x1x4096, .i32⟩
  | .hbm, ⟨22, _⟩ => ⟨S11008x4096, .i32⟩
  | .hbm, ⟨23, _⟩ => ⟨S1x11008x4096, .i32⟩
  | .hbm, ⟨24, _⟩ => ⟨S1024x11008x4096, .i32⟩
  | .hbm, ⟨25, _⟩ => ⟨S1024x11008x4096, .i32⟩
  | .hbm, ⟨26, _⟩ => ⟨S1024x11008x4096, .i32⟩
  | .hbm, ⟨27, _⟩ => ⟨S_, .i32⟩
  | .hbm, ⟨28, _⟩ => ⟨S1024x11008, .i32⟩
  | _, _ => ⟨S1024x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.RunKernel.lean ====
/-
  The kernel's run at any float values: it ends, its arguments unchanged and every counter at zero. Nothing is said of
  the result, whose window the proof data forgets.
-/
module

public import proofs.«01_k».proof.Proof.Gen.Kernel.Skeleton
public import proofs.«01_k».proof.Proof.Gen.Kernel.Frame
public import proofs.«01_k».proof.Defs
public import Idealize.ShloMosaic.Lib.Pipeline.TableIdle
public import Idealize.ShloMosaic.Lib.VecWindow

@[expose] public section

set_option maxRecDepth 16384

noncomputable section

namespace Cert.KernelRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The body at any grid point, from its buffers at any contents: it runs and leaves its inputs as they were. -/
theorem body_any (c : Dev nD) (i : grid0.Coords)
    (M1 : Memref sig .tc .vmem S1024x4096 .i8) (h1 : M1.IsWhole) (M2 : Memref sig .tc .vmem S1024x1024 .i8) (h2 : M2.IsWhole)
    (M3 : Memref sig .tc .vmem S1024x1024 .i32) (h3 : M3.IsWhole) (M4 : Memref sig .tc .vmem S1024x4096 .bf16) (h4 : M4.IsWhole)
    (X1 : S1024x4096.Idx → Elt F .i8) (X2 : S1024x1024.Idx → Elt F .i8) (X3 : S1024x1024.Idx → Elt F .i32) (X4 : S1024x4096.Idx → Elt F .bf16)
    (K : PUnit → sProp 𝕄) :
    iprop((owns (c : Thread nD τ) M1 fullShare X1 ∗ owns (c : Thread nD τ) M2 fullShare X2
            ∗ owns (c : Thread nD τ) M3 fullShare X3 ∗ owns (c : Thread nD τ) M4 fullShare X4)
          ∗ (iprop(owns (c : Thread nD τ) M1 fullShare X1 ∗ owns (c : Thread nD τ) M2 fullShare X2
            ∗ (∃ Y3, owns (c : Thread nD τ) M3 fullShare Y3) ∗ (∃ Y4, owns (c : Thread nD τ) M4 fullShare Y4)) -∗ K ⟨⟩))
      ⊢ wp frame (wpE (defs₀ (F := F)) Variants.none c none) Set.univ (cc0__gemm_body i M1 h1 M2 h2 M3 h3 M4 h4) K := by
  simp only [owns_eq_rep]
  iintro ⟨⟨H1, H2, H3, H4⟩, Hk⟩
  sl_exec_parts!
  sl_step
  ihave H3' := (pointsTo_rep_entails c M3 _ _) $$ H3
  ihave H4' := (pointsTo_rep_entails c M4 _ _) $$ H4
  iapply Hk
  isplitl [H1]; · iexact H1
  isplitl [H2]; · iexact H2
  isplitl [H3']; · iexists _; iexact H3'
  iexists _; iexact H4'

variable (m : (ℓ : Loc nD τ sig) → Buf (Elt F) ℓ) (ρ : Dev nD → PrngReg)

/-- The scratch buffer at something and the register at something, spelled out. -/
theorem start_eq (c : Dev nD) : (Pipeline.ΦA spec0 c : sProp 𝕄)
    = iprop((∃ f : S1024x4096.Idx → Elt F .bf16, ((c : Thread nD τ).loc cc0_scratch0) ↦{fullShare} f) ∗ ∃ r, prngReg c r) := by
  unfold Pipeline.ΦA; rw [scopedRest0_eq]; rfl

/-- The proof data: the arrays as launched, the inputs' buffers left at their blocks, the result's at contents
    nothing names. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => fun _ => 0#32
  Φ _ := Pipeline.ΦA spec0 c
  q _ := fullShare
  owed _ := 0

/-- The weights' buffer arrives just fetched: its block, and anything past the array's end. -/
theorem before_1 (c : Dev nD) (t : Fin cfg0.N) (d) :
    (dats m 0 c).before (1 : Fin 3) t d = win0_1.fill (grid0.coords t) d (iblk m c 1 t) := by
  unfold Dat.before; rw [if_pos (fetch0_1 t)]; rfl

/-- The forgotten window: the result's. -/
def fgt : Fin 3 → Bool := fun w => w.val == 2

/-- The weights' buffer as the body leaves it is what the obligation asks. -/
theorem wts_leaves (c : Dev nD) (t : Fin cfg0.N) (d1 : S1024x1024.Idx → Elt F .i8) :
    (owns (c : Thread nD τ) (stage0_1 (cfg0.slots t 1)) fullShare (win0_1.fill (grid0.coords t) d1 (iblk m c 1 t)) : sProp 𝕄)
      ⊢ iprop(∃ d : S1024x1024.Idx → Elt F .i8, owns (c : Thread nD τ) (stage0_1 (cfg0.slots t 1)) fullShare
          (win0_1.fill (grid0.coords t) d (win0_1.cut (grid0.coords t) (win0_1.fill (grid0.coords t) (fun _ => 0#8) (iblk m c 1 t))))) := by
  iintro H
  iexists d1
  rw [win0_1.cut_fill]
  iexact H

/-- The scratch buffer at some contents, as the invariant holds it. -/
theorem scratch_any (c : Dev nD) (Y : S1024x4096.Idx → Elt F .bf16) :
    (owns (c : Thread nD τ) (Memref.whole cc0_scratch0) fullShare Y : sProp 𝕄)
      ⊢ iprop(∃ f : S1024x4096.Idx → Elt F .bf16, ((c : Thread nD τ).loc cc0_scratch0) ↦{fullShare} f) := by
  rw [owns_whole_eq]
  iintro ⟨%f, -, H⟩
  iexists f; iexact H

/-- The library's body obligation with the result's window forgotten. -/
theorem body_obligation (c : Dev nD) :
    BodyObligationLoose (dats m 0 c) (defs₀ (F := F)) Variants.none () Set.univ fgt := fun t => by
  rw [bigSep_W0, bigSep_W0]
  simp only [show fgt 0 = false from rfl, show fgt 1 = false from rfl, show fgt 2 = true from rfl]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, start_eq]
  iintro ⟨⟨⟨%f, H4⟩, Hg⟩, Ho, ⟨%d0, H0⟩, ⟨%d1, H1⟩, ⟨%d2, H2⟩⟩
  rw [before0_0_of m (dats m 0 c) rfl (fun _ => rfl) t d0, before_1 m c t d1]
  have hb : (defs₀ (F := F)) .tc cfg0.body (cfg0.bodyArgs t (cfg0.slots t)) = bodyAt0 t := rfl
  rw [hb]
  unfold bodyAt0
  iapply (body_any (F := F) c (grid0.coords t) _ _ _ _ _ _ (Memref.whole cc0_scratch0) (Memref.isWhole_whole _) (iblk m c 0 t)
    (win0_1.fill (grid0.coords t) d1 (iblk m c 1 t)) d2 f _)
  isplitl [H0 H1 H2 H4]
  · isplitl [H0]; · iexact H0
    isplitl [H1]; · iexact H1
    isplitl [H2]; · iexact H2
    rw [owns_whole_eq]; iexists f; isplitr; · ipureintro; rfl
    iexact H4
  iintro ⟨H0, H1, H2, ⟨%Y4, H4⟩⟩
  ihave H4s := (scratch_any c Y4) $$ H4
  isplitl [H4s Hg]
  · isplitl [H4s]; · iexact H4s
    iexact Hg
  isplitl [Ho]; · iexact Ho
  isplitl [H0]; · iexact H0
  isplitl [H1]
  · ihave H1r := (wts_leaves m c t d1) $$ H1
    iexact H1r
  iexact H2

set_option backward.isDefEq.respectTransparency.types false in
/-- Every weakly fair run ends, the input arrays as launched and every counter at zero. -/
theorem run_main : θ_run defs (onTc (τ := τ) (main (F := F))) ⟨m, fun _ => 0, ρ⟩
    (fun r => Pipeline.RDat.FramePost cfg0 (fun c => (dats m 0 c).toRForget fgt) (V m) r ∧ r.2.sem = (fun _ => 0)) :=
  Pipeline.θ_run_frame_forget (Q' := _) cfgs (dats m) 0 launch0 defs₀ Variants.none fgt m ρ main
    (hbody := body_obligation m) (hshare := fun c => (dats m 0 c).share_full fun _ => rfl) (howed := fun _ _ => rfl)
    (V := V m) (hmain := hmain m Variants.none) (hA := fun _ _ => rfl) (hΦ := fun _ _ => rfl)

/-- The kernel runs, its arguments end unchanged and every semaphore counter ends at zero. -/
theorem quiescent : Cert.quiescent_Kernel := by
  intro m ρ _
  exact (θ_run defs _ _).mono
    (fun _ h => ⟨fun c => ⟨h.1.arr_in c (0 : Fin 3) rfl, h.1.arr_in c (1 : Fin 3) rfl⟩, h.2⟩)
    (run_main (F := Bits) m ρ)

end Cert.KernelRun
end
-- ==== Proof.BodyIdeal.lean ====
/-
  The kernel body of the idealized program, run once over symbolic buffers: what one grid point computes and stores.
-/
module

public import proofs.«01_k».proof.Proof.Gen.KernelIdeal.Skeleton
public import proofs.«01_k».proof.Proof.Gen.KernelIdeal.Frame
public import Idealize.ShloMosaic.Lib.Pipeline.TableIdle
public import Idealize.ShloMosaic.Lib.VecWindow

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The chunk position `c mod 4` of each column of the packed activations. -/
def chunkPos : IVec S256x4096 32 := k0_pay4
/-- The lane number along the last axis. -/
def laneIota : IVec S256x32x128 32 := iota .tc S256x32x128 32 [2] iota_S256x32x128_d2_w32
/-- The source lane each lane gathers from. -/
def laneIdx : IVec S256x32x128 32 :=
  k0_pay6 laneIota (iota .tc S256x32x128 32 [1] iota_S256x32x128_d1_w32) (k0_pay5 laneIota) 4#32 (Scalar.cmpi .eq 4#32 0#32) 1#32
/-- The activations reordered to the packed weights' column order and converted: what the scratch buffer receives. -/
def permA (X : Vec F S1024x4096 .i8) : FVec F S1024x4096 .bf16 :=
  k0_pay26 laneIota
    (k0_pay13 chunkPos laneIdx (k0_pay7 (k0_pay3 X)) (k0_pay8 (k0_pay3 X)) (k0_pay9 (k0_pay3 X)) (k0_pay10 (k0_pay3 X)) (k0_pay11 chunkPos) (k0_pay12 chunkPos) 2#32)
    (k0_pay14 (k0_pay3 X) chunkPos laneIdx)
    (k0_pay21 chunkPos laneIdx (k0_pay15 (k0_pay3 X)) (k0_pay16 (k0_pay3 X)) (k0_pay17 (k0_pay3 X)) (k0_pay18 (k0_pay3 X)) (k0_pay19 chunkPos) k0_pay20)
    (k0_pay22 (k0_pay3 X) chunkPos laneIdx) 32#32 (k0_pay23 laneIota) (k0_pay24 laneIota) (k0_pay25 laneIota)
/-- The unpacked weights of one block of rows, in the packed column order. -/
def unpackB (Y : Vec F S1024x1024 .i8) : FVec F S1024x4096 .bf16 :=
  k0_pay1 (k0_pay28 Y) (k0_pay29 Y) (k0_pay30 Y) (k0_pay31 Y) (k0_pay32 Y) (k0_pay33 Y) (k0_pay34 Y) (k0_pay35 Y) (k0_pay36 Y) (k0_pay37 Y)
    (k0_pay38 Y) (k0_pay39 Y) (k0_pay40 Y) (k0_pay41 Y) (k0_pay42 Y) (k0_pay43 Y) (k0_pay44 Y) (k0_pay45 Y) (k0_pay46 Y) (k0_pay47 Y) (k0_pay48 Y)
/-- One result block: the product of the scratch's activations and the unpacked weights, as integers. -/
def outBlk (S : Vec F S1024x4096 .bf16) (Y : Vec F S1024x1024 .i8) : IVec S1024x1024 32 := k0_pay2 (unpackB Y) S

/-- At the first grid point the body fills the scratch buffer with the reordered activations and stores the block's product. -/
theorem body_first (c : Dev nD) (i : grid0.Coords) (hi : (i 0).val = 0)
    (M1 : Memref sig .tc .vmem S1024x4096 .i8) (h1 : M1.IsWhole) (M2 : Memref sig .tc .vmem S1024x1024 .i8) (h2 : M2.IsWhole)
    (M3 : Memref sig .tc .vmem S1024x1024 .i32) (h3 : M3.IsWhole) (M4 : Memref sig .tc .vmem S1024x4096 .bf16) (h4 : M4.IsWhole)
    (X1 : S1024x4096.Idx → Elt F .i8) (X2 : S1024x1024.Idx → Elt F .i8) (X3 : S1024x1024.Idx → Elt F .i32) (X4 : S1024x4096.Idx → Elt F .bf16)
    (K : PUnit → sProp 𝕄) :
    iprop((owns (c : Thread nD τ) M1 fullShare X1 ∗ owns (c : Thread nD τ) M2 fullShare X2
            ∗ owns (c : Thread nD τ) M3 fullShare X3 ∗ owns (c : Thread nD τ) M4 fullShare X4)
          ∗ (iprop(owns (c : Thread nD τ) M1 fullShare X1 ∗ owns (c : Thread nD τ) M2 fullShare X2
            ∗ owns (c : Thread nD τ) M3 fullShare (outBlk (permA X1) X2) ∗ owns (c : Thread nD τ) M4 fullShare (permA X1)) -∗ K ⟨⟩))
      ⊢ wp frame (wpE (defs₀ (F := F)) Variants.none c none) Set.univ (cc0__gemm_body i M1 h1 M2 h2 M3 h3 M4 h4) K := by
  have hc : Scalar.cmpi .ne (Scalar.extui (Scalar.cmpi .eq (BitVec.ofNat 32 (i 0).val) 0#32 : BitVec 1) : BitVec 32) 0#32 = 1#1 := by
    rw [hi]; decide
  simp only [owns_eq_rep]
  iintro ⟨⟨H1, H2, H3, H4⟩, Hk⟩
  sl_exec_parts! (disch := exact hc)
  sl_step
  have hA := View.readAt_rep_full (Val := Elt F) M1.view X1 inb_S1024x4096_S1024x4096_0_0
  have hB := View.readAt_rep_full (Val := Elt F) M2.view X2 inb_S1024x1024_S1024x1024_0_0
  have e4 : M4.view.read (Elt F) (M4.view.writes (Elt F) M4.view.junk (body_first.sl.H4_1 M1 X1)) = permA X1 := by
    unfold body_first.sl.H4_1
    rw [View.read_writes_full]
    exact (show _ = permA (M1.view.readAt (Elt F) (Rect.unit (s := S1024x4096) ![0, 0] S1024x4096.size inb_S1024x4096_S1024x4096_0_0).toLoadRect (M1.view.rep X1)) from rfl).trans (congrArg permA hA)
  have hS : body_first.sl.v62 M1 M4 X1 = permA X1 := by
    refine Eq.trans ?_ e4
    unfold body_first.sl.v62 body_first.sl.H4_1
    rw [View.readCov_full, View.read_writes_full]
  have e3 : M3.view.read (Elt F) (M3.view.writes (Elt F) M3.view.junk (body_first.sl.H3_1 M1 M2 M4 X1 X2)) = outBlk (permA X1) X2 := by
    unfold body_first.sl.H3_1
    rw [View.read_writes_full]
    refine (show _ = outBlk (body_first.sl.v62 M1 M4 X1) (M2.view.readAt (Elt F) (Rect.unit (s := S1024x1024) ![0, 0] S1024x1024.size inb_S1024x1024_S1024x1024_0_0).toLoadRect (M2.view.rep X2)) from rfl).trans ?_
    rw [hB, hS]
  ihave H3' := (pointsTo_rep_entails c M3 _ _) $$ H3
  ihave H4' := (pointsTo_rep_entails c M4 _ _) $$ H4
  rw [e3, e4]
  iapply Hk
  isplitl [H1]; · iexact H1
  isplitl [H2]; · iexact H2
  isplitl [H3']; · iexact H3'
  iexact H4'

/-- At a later grid point the body leaves the scratch buffer as it is and stores the block's product with what it holds. -/
theorem body_rest (c : Dev nD) (i : grid0.Coords) (hi : (i 0).val ≠ 0)
    (M1 : Memref sig .tc .vmem S1024x4096 .i8) (h1 : M1.IsWhole) (M2 : Memref sig .tc .vmem S1024x1024 .i8) (h2 : M2.IsWhole)
    (M3 : Memref sig .tc .vmem S1024x1024 .i32) (h3 : M3.IsWhole) (M4 : Memref sig .tc .vmem S1024x4096 .bf16) (h4 : M4.IsWhole)
    (X1 : S1024x4096.Idx → Elt F .i8) (X2 : S1024x1024.Idx → Elt F .i8) (X3 : S1024x1024.Idx → Elt F .i32) (X4 : S1024x4096.Idx → Elt F .bf16)
    (K : PUnit → sProp 𝕄) :
    iprop((owns (c : Thread nD τ) M1 fullShare X1 ∗ owns (c : Thread nD τ) M2 fullShare X2
            ∗ owns (c : Thread nD τ) M3 fullShare X3 ∗ owns (c : Thread nD τ) M4 fullShare X4)
          ∗ (iprop(owns (c : Thread nD τ) M1 fullShare X1 ∗ owns (c : Thread nD τ) M2 fullShare X2
            ∗ owns (c : Thread nD τ) M3 fullShare (outBlk X4 X2) ∗ owns (c : Thread nD τ) M4 fullShare X4) -∗ K ⟨⟩))
      ⊢ wp frame (wpE (defs₀ (F := F)) Variants.none c none) Set.univ (cc0__gemm_body i M1 h1 M2 h2 M3 h3 M4 h4) K := by
  have hc : ¬ Scalar.cmpi .ne (Scalar.extui (Scalar.cmpi .eq (BitVec.ofNat 32 (i 0).val) 0#32 : BitVec 1) : BitVec 32) 0#32 = 1#1 := by
    have hall : ∀ n : Fin 11, n.val ≠ 0 →
        ¬ Scalar.cmpi .ne (Scalar.extui (Scalar.cmpi .eq (BitVec.ofNat 32 n.val) 0#32 : BitVec 1) : BitVec 32) 0#32 = 1#1 := by decide
    exact hall (i 0) hi
  simp only [owns_eq_rep]
  iintro ⟨⟨H1, H2, H3, H4⟩, Hk⟩
  sl_exec_parts! (disch := exact hc)
  sl_step
  have hB := View.readAt_rep_full (Val := Elt F) M2.view X2 inb_S1024x1024_S1024x1024_0_0
  have hS := View.readAt_rep_full (Val := Elt F) M4.view X4 inb_S1024x4096_S1024x4096_0_0
  have e3 : M3.view.read (Elt F) (M3.view.writes (Elt F) M3.view.junk (body_rest.sl.H3_1 M2 M4 X2 X4)) = outBlk X4 X2 := by
    unfold body_rest.sl.H3_1
    rw [View.read_writes_full]
    refine (show _ = outBlk (M4.view.readAt (Elt F) (Rect.unit (s := S1024x4096) ![0, 0] S1024x4096.size inb_S1024x4096_S1024x4096_0_0).toLoadRect (M4.view.rep X4)) (M2.view.readAt (Elt F) (Rect.unit (s := S1024x1024) ![0, 0] S1024x1024.size inb_S1024x1024_S1024x1024_0_0).toLoadRect (M2.view.rep X2)) from rfl).trans ?_
    rw [hB, hS]
  ihave H3' := (pointsTo_rep_entails c M3 _ _) $$ H3
  rw [e3]
  iapply Hk
  isplitl [H1]; · iexact H1
  isplitl [H2]; · iexact H2
  isplitl [H3']; · iexact H3'
  iexact H4

end Cert.IdealRun
end
-- ==== Proof.RunIdeal.lean ====
/-
  The idealized program's run: the pipeline's proof data, the body's obligation and the launch.
-/
module

public import proofs.«01_k».proof.Proof.BodyIdeal
public import Idealize.ShloMosaic.Lib.Pipeline.Value

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations as launched on core `c`. -/
abbrev arrA (c : Dev nD) : Vec F S1024x4096 .i8 := m ((c : Thread nD τ).loc main_arg0)

/-- The first window's block is the whole activations array at every point. -/
theorem iblk0 (c : Dev nD) (t : Fin cfg0.N) : iblk m c 0 t = arrA m c := by
  funext j
  refine congrArg (m ((c : Thread nD τ).loc main_arg0)) (?_ : (win0_0.rect t).emb j = j)
  funext a
  refine Fin.ext ?_
  show cc0_transform_0 (grid0.coords t) a * S1024x4096.size a + 1 * (j a).val = (j a).val
  have h0 : cc0_transform_0 (grid0.coords t) a = 0 := by
    revert a; rintro ⟨_ | _ | n, h⟩
    · rfl
    · rfl
    · exact absurd h (Nat.not_lt.2 (Nat.le_add_left _ _))
  rw [h0]; omega

/-- The grid's one coordinate is the point's number. -/
theorem coords0 (t : Fin cfg0.N) : ((grid0.coords t) 0).val = t.val := by
  rcases fin_N0 t with rfl | rfl | rfl | rfl | rfl | rfl | rfl | rfl | rfl | rfl | rfl <;> decide

/-- What the body keeps from its first point on: the scratch buffer at the reordered activations, the generator register at something. -/
def kept (c : Dev nD) : sProp 𝕄 :=
  iprop(owns (c : Thread nD τ) (Memref.whole cc0_scratch0) fullShare (permA (arrA m c)) ∗ ∃ r, prngReg c r)

/-- The invariant before point `n`: at the start the scratch buffer at anything, later at the reordered activations. -/
def inv (c : Dev nD) (n : ℕ) : sProp 𝕄 := if n = 0 then Pipeline.ΦA spec0 c else kept m c

/-- After any point the invariant is what the body keeps. -/
theorem inv_succ (c : Dev nD) (n : ℕ) : inv m c (n + 1) = kept m c := if_neg (Nat.succ_ne_zero n)

/-- The scratch buffer at something and the register at something, spelled out. -/
theorem start_eq (c : Dev nD) : (Pipeline.ΦA spec0 c : sProp 𝕄)
    = iprop((∃ f : S1024x4096.Idx → Elt F .bf16, ((c : Thread nD τ).loc cc0_scratch0) ↦{fullShare} f) ∗ ∃ r, prngReg c r) := by
  unfold Pipeline.ΦA; rw [scopedRest0_eq]; rfl

variable (G : (c : Dev nD) → S1024x11008.Idx → Elt F .i32)

/-- The block of `G` that point `t` writes back: its part inside the array. -/
def resBlk (c : Dev nD) (t : Fin cfg0.N) : (win0_2.xblock (grid0.coords t)).Idx → Elt F .i32 := (win0_2.blk t).view.read (Elt F) (G c)

/-- That block filled out past the array's end by a word nothing reads. -/
def resBlkFull (c : Dev nD) (t : Fin cfg0.N) : S1024x1024.Idx → Elt F .i32 := win0_2.fill (grid0.coords t) (fun _ => 0#32) (resBlk G c t)

/-- The proof data: the arrays as launched; after the body the inputs' buffers at their blocks and the result's at
    its block of `G`, each filled out past the array's end by a word nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => resBlkFull G c t
  Φ t := inv m c t.val
  q _ := fullShare
  owed _ := 0

/-- The weights' buffer arrives just fetched: its block, and anything past the array's end. -/
theorem before_1 (c : Dev nD) (t : Fin cfg0.N) (d) :
    (dats m G 0 c).before (1 : Fin 3) t d = win0_1.fill (grid0.coords t) d (iblk m c 1 t) := by
  unfold Dat.before; rw [if_pos (fetch0_1 t)]; rfl

/-- The body's result block agrees with `G` on the columns inside the array. -/
def Agrees (c : Dev nD) : Prop := ∀ (t : Fin cfg0.N) (d : S1024x1024.Idx → Elt F .i8),
  win0_2.cut (grid0.coords t) (outBlk (permA (arrA m c)) (win0_1.fill (grid0.coords t) d (iblk m c 1 t)))
    = resBlk G c t

/-- The body at any point, from the invariant there to the invariant after it. -/
theorem body_point (c : Dev nD) (t : Fin cfg0.N) (X2 : S1024x1024.Idx → Elt F .i8) (X3 : S1024x1024.Idx → Elt F .i32) (K : PUnit → sProp 𝕄) :
    iprop((inv m c t.val ∗ owns (c : Thread nD τ) (stage0_0 (cfg0.slots t 0)) fullShare (arrA m c)
          ∗ owns (c : Thread nD τ) (stage0_1 (cfg0.slots t 1)) fullShare X2 ∗ owns (c : Thread nD τ) (stage0_2 (cfg0.slots t 2)) fullShare X3)
        ∗ (iprop(kept m c ∗ owns (c : Thread nD τ) (stage0_0 (cfg0.slots t 0)) fullShare (arrA m c)
          ∗ owns (c : Thread nD τ) (stage0_1 (cfg0.slots t 1)) fullShare X2
          ∗ owns (c : Thread nD τ) (stage0_2 (cfg0.slots t 2)) fullShare (outBlk (permA (arrA m c)) X2)) -∗ K ⟨⟩))
      ⊢ wp frame (wpE (defs₀ (F := F)) Variants.none c none) Set.univ (bodyAt0 t) K := by
  have hcd := coords0 t
  by_cases h0 : t.val = 0
  · rw [show inv m c t.val = Pipeline.ΦA spec0 c from if_pos h0, start_eq]
    unfold bodyAt0
    iintro ⟨⟨⟨⟨%f, H4⟩, Hg⟩, H1, H2, H3⟩, Hk⟩
    iapply (body_first (F := F) c (grid0.coords t) (hcd.trans h0) _ _ _ _ _ _ (Memref.whole cc0_scratch0) (Memref.isWhole_whole _) (arrA m c) X2 X3 f K)
    isplitl [H1 H2 H3 H4]
    · isplitl [H1]; · iexact H1
      isplitl [H2]; · iexact H2
      isplitl [H3]; · iexact H3
      rw [owns_whole_eq]; iexists f; isplitr; · ipureintro; rfl
      iexact H4
    iintro ⟨H1, H2, H3, H4⟩
    iapply Hk
    unfold kept
    isplitl [H4 Hg]
    · isplitl [H4]; · iexact H4
      iexact Hg
    isplitl [H1]; · iexact H1
    isplitl [H2]; · iexact H2
    iexact H3
  · rw [show inv m c t.val = kept m c from if_neg h0]
    unfold kept bodyAt0
    iintro ⟨⟨⟨H4, Hg⟩, H1, H2, H3⟩, Hk⟩
    iapply (body_rest (F := F) c (grid0.coords t) (fun h => h0 (hcd.symm.trans h)) _ _ _ _ _ _ (Memref.whole cc0_scratch0) (Memref.isWhole_whole _) (arrA m c) X2 X3 (permA (arrA m c)) K)
    isplitl [H1 H2 H3 H4]
    · isplitl [H1]; · iexact H1
      isplitl [H2]; · iexact H2
      isplitl [H3]; · iexact H3
      iexact H4
    iintro ⟨H1, H2, H3, H4⟩
    iapply Hk
    isplitl [H4 Hg]
    · isplitl [H4]; · iexact H4
      iexact Hg
    isplitl [H1]; · iexact H1
    isplitl [H2]; · iexact H2
    iexact H3

/-- A result buffer that agrees with the block of `G` inside the array is what the obligation asks it to be left as. -/
theorem res_leaves (c : Dev nD) (t : Fin cfg0.N) (X : S1024x1024.Idx → Elt F .i32) (hX : win0_2.cut (grid0.coords t) X = resBlk G c t) :
    (owns (c : Thread nD τ) (stage0_2 (cfg0.slots t 2)) fullShare X : sProp 𝕄)
      ⊢ iprop(∃ d : S1024x1024.Idx → Elt F .i32, owns (c : Thread nD τ) (stage0_2 (cfg0.slots t 2)) fullShare
          (win0_2.fill (grid0.coords t) d (win0_2.cut (grid0.coords t) (resBlkFull G c t)))) := by
  iintro H
  iexists X
  rw [show win0_2.cut (grid0.coords t) (resBlkFull G c t) = resBlk G c t from win0_2.cut_fill _ _ _, ← hX, win0_2.fill_cut]
  iexact H

/-- The library's body obligation, where the result block agrees with `G`. -/
theorem body_obligation (c : Dev nD) (hG : Agrees m G c) :
    BodyObligationLoose (dats m G 0 c) (defs₀ (F := F)) Variants.none () Set.univ := fun t => by
  rw [bigSep_W0, bigSep_W0]
  simp only
  rw [show (dats m G 0 c).Φ t.castSucc = inv m c t.val from rfl, show (dats m G 0 c).Φ t.succ = kept m c from inv_succ m c t.val,
    show (dats m G 0 c).owesAt () t.succ = (dats m G 0 c).owesAt () t.castSucc from rfl]
  iintro ⟨HΦ, Ho, ⟨%d0, H0⟩, ⟨%d1, H1⟩, ⟨%d2, H2⟩⟩
  rw [before0_0_of m (dats m G 0 c) rfl (fun _ => rfl) t d0, before_1 m G c t d1, iblk0]
  have hb : (defs₀ (F := F)) .tc cfg0.body (cfg0.bodyArgs t (cfg0.slots t)) = bodyAt0 t := rfl
  rw [hb]
  iapply (body_point m c t (win0_1.fill (grid0.coords t) d1 (iblk m c 1 t)) _ _)
  isplitl [HΦ H0 H1 H2]
  · isplitl [HΦ]; · iexact HΦ
    isplitl [H0]; · iexact H0
    isplitl [H1]; · iexact H1
    iexact H2
  iintro ⟨HΦ, H0, H1, H2⟩
  isplitl [HΦ]; · iexact HΦ
  isplitl [Ho]; · iexact Ho
  isplitl [H0]
  · change _ ⊢ owns (c : Thread nD τ) (stage0_0 (cfg0.slots t 0)) fullShare (iblk m c 0 t)
    rw [iblk0]; try iexact H0
  isplitl [H1]
  · iexists d1
    change _ ⊢ owns (c : Thread nD τ) (stage0_1 (cfg0.slots t 1)) fullShare (win0_1.fill (grid0.coords t) d1 (win0_1.cut (grid0.coords t) (win0_1.fill (grid0.coords t) (fun _ => 0#8) (iblk m c 1 t))))
    rw [win0_1.cut_fill]; try iexact H1
  · ihave H2r := (res_leaves G c t _ (hG t d1)) $$ H2
    iexact H2r

/-- What the launch hands the body is the invariant before the first point. -/
theorem inv_in (c : Dev nD) : (Pipeline.ΦA spec0 c : sProp 𝕄) ⊢ (dats m G 0 c).Φ 0 := by
  rw [show (dats m G 0 c).Φ 0 = inv m c 0 from rfl]
  unfold inv; rw [if_pos rfl]

/-- The invariant after the last point gives back what the launch handed over. -/
theorem inv_out (c : Dev nD) : (dats m G 0 c).Φ (Fin.last cfg0.N) ⊢ (Pipeline.ΦA spec0 c : sProp 𝕄) := by
  have hN : cfg0.N = 11 := N_0
  rw [show (dats m G 0 c).Φ (Fin.last cfg0.N) = inv m c cfg0.N from rfl, hN]
  unfold inv; rw [if_neg (by decide), start_eq]; unfold kept; rw [owns_whole_eq]
  iintro ⟨⟨%f, -, H⟩, Hg⟩
  isplitl [H]
  · iexists f; iexact H
  iexact Hg

set_option backward.isDefEq.respectTransparency.types false in
/-- Every weakly fair run ends, with every array at what the library computes and every counter at zero. -/
theorem run_main (hG : ∀ c, Agrees m G c) : θ_run defs (onTc (τ := τ) (main (F := F))) ⟨m, fun _ => 0, ρ⟩
    (fun r => Pipeline.FramePost cfgs (dats m G) 0 (V m) r ∧ r.2.sem = (fun _ => 0)) :=
  Pipeline.θ_run_frame_track (Q' := _) cfgs (dats m G) 0 launch0 defs₀ Variants.none m ρ main
    (hbody := fun c => body_obligation m G c (hG c)) (hshare := fun c => (dats m G 0 c).share_full fun _ => rfl) (howed := fun _ _ => rfl)
    (V := V m) (hmain := hmain m Variants.none) (hA := fun _ _ => rfl) (hin := inv_in m G) (hout := inv_out m G)

end Cert.IdealRun
end
-- ==== Proof.Lanes.lean ====
/-
  The lane arithmetic of the reordering: the chunk position, the source lane and the band of every lane, as numbers.
-/
module

public import proofs.«01_k».proof.Proof.BodyIdeal
public import Idealize.ShloMosaic.Lib.Pointwise

@[expose] public section

set_option maxRecDepth 16384

noncomputable section

namespace Cert.IdealRun

open Cert.KernelIdeal Cert.KernelIdeal.Gen
open Idealize.ShloMosaic

variable {F : FTy → Type} [FloatOps F]

/-- The position of a column's 128-column chunk among its four neighbours. -/
theorem chunkPos_apply (p : Fin 256) (l : Fin 4096) : chunkPos (ix2 p l) = BitVec.ofNat 32 (l.val / 128 % 4) := by
  have h : ∀ l : Fin 4096, chunkPos (ix2 0 l) = BitVec.ofNat 32 (l.val / 128 % 4) := by decide +kernel
  exact (show chunkPos (ix2 p l) = chunkPos (ix2 0 l) from rfl).trans (h l)

/-- The source lane of lane `l` of chunk `c`. -/
theorem laneIdx_apply (p : Fin 256) (c : Fin 32) (l : Fin 128) :
    laneIdx (ix3 p c l) = BitVec.ofNat 32 (16 * (l.val / 4 % 8) + 4 * (c.val % 4) + l.val % 4) := by
  have h : ∀ (c : Fin 32) (l : Fin 128), laneIdx (ix3 0 c l) = BitVec.ofNat 32 (16 * (l.val / 4 % 8) + 4 * (c.val % 4) + l.val % 4) := by
    decide +kernel
  exact (show laneIdx (ix3 p c l) = laneIdx (ix3 0 c l) from rfl).trans (h c l)

/-- The band of 32 lanes each lane lies in. -/
def band : IVec S256x32x128 32 :=
  select (andi (cmpi .ne (subi (k0_pay24 laneIota) (k0_pay25 laneIota)) (broadcast S256x32x128 (Scalar.subi (Scalar.extui (Scalar.cmpi .sgt 32#32 0#32)) (Scalar.extui (Scalar.cmpi .slt 32#32 0#32)))))
      (cmpi .ne (remsi laneIota (broadcast S256x32x128 32#32)) (broadcast S256x32x128 0#32)))
    (subi (k0_pay23 laneIota) (broadcast S256x32x128 1#32)) (k0_pay23 laneIota)

theorem band_apply (p : Fin 256) (c : Fin 32) (l : Fin 128) : band (ix3 p c l) = BitVec.ofNat 32 (l.val / 32) := by
  have h : ∀ l : Fin 128, band (ix3 0 0 l) = BitVec.ofNat 32 (l.val / 32) := by decide +kernel
  exact (show band (ix3 p c l) = band (ix3 0 0 l) from rfl).trans (h l)

end Cert.IdealRun

end
-- ==== Proof.Words.lean ====
/-
  Bytes inside words: what the byte view of a vector of 32-bit words holds, and that a masked shift of the packed words is
  the masked shift of every byte.
-/
module

public import Idealize.ShloMosaic.Lib.Pointwise
public import Idealize.ShloMosaic.Lib.BitcastFour

@[expose] public section

namespace Cert.Words

open Idealize.ShloMosaic

/-- Words read as bytes: bit `q` of the byte in row `p` is bit `8 * (p % 4) + q` of the word in row `p / 4` of the same column. -/
theorem byte_bit {R r n : Nat} (x : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) (q : Nat) (hq : q < 8) :
    (bitcast ⟨2, ![R, n]⟩ 8 x h (ix2 p l)).getLsbD q = (x (ix2 a l)).getLsbD (8 * (p.val % 4) + q) := by
  have hrow : (⟨2, ![R, n]⟩ : Shape).row (ix2 p l) = p.val := rfl
  rw [bitcast_getLsbD x h (ix2 p l) q hq (by decide)]
  have e1 : ((⟨2, ![R, n]⟩ : Shape).row (ix2 p l) * 8 + q) / 32 = a.val := by rw [hrow, ha]; omega
  have e2 : ((⟨2, ![R, n]⟩ : Shape).row (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: bit `q` of the word in row `a` is bit `q % 8` of the byte in row `4 * a + q / 8` of the same column. -/
theorem word_bit {R r n : Nat} (x : (⟨2, ![R, n]⟩ : Shape).Idx → BitVec 8) (h : (⟨2, ![R, n]⟩ : Shape).Bitcasts 8 ⟨2, ![r, n]⟩ 32)
    (a : Fin r) (l : Fin n) (q : Nat) (hq : q < 32) (p : Fin R) (hp : p.val = 4 * a.val + q / 8) :
    (bitcast ⟨2, ![r, n]⟩ 32 x h (ix2 a l)).getLsbD q = (x (ix2 p l)).getLsbD (q % 8) :=
  bitcast_8_32_getLsbD_ix2 x h a l q hq p hp

/-- A vector of words whose column `l` is another packed vector's column `l'`, read as bytes: the bytes of column `l'`. -/
theorem byte_of_column {R r n n' : Nat} (x : (⟨2, ![R, n']⟩ : Shape).Idx → BitVec 8) (h : (⟨2, ![R, n']⟩ : Shape).Bitcasts 8 ⟨2, ![r, n']⟩ 32)
    (y : (⟨2, ![r, n]⟩ : Shape).Idx → BitVec 32) (h' : (⟨2, ![r, n]⟩ : Shape).Bitcasts 32 ⟨2, ![R, n]⟩ 8) (hR : R = 4 * r)
    (l : Fin n) (l' : Fin n') (e : ∀ a : Fin r, y (ix2 a l) = bitcast ⟨2, ![r, n']⟩ 32 x h (ix2 a l')) (p : Fin R) :
    bitcast ⟨2, ![R, n]⟩ 8 y h' (ix2 p l) = x (ix2 p l') := by
  have hp := p.isLt
  apply BitVec.eq_of_getLsbD_eq
  intro q hq
  rw [byte_bit y h' p l ⟨p.val / 4, by omega⟩ rfl q hq, e,
    word_bit x h ⟨p.val / 4, by omega⟩ l' (8 * (p.val % 4) + q) (by omega) p (by show p.val = 4 * (p.val / 4) + _; omega)]
  congr 1
  omega

/-- The mask with the two low bits of every byte. -/
theorem mask_bit (q : Nat) (hq : q < 32) : (50529027#32 : BitVec 32).getLsbD q = decide (q % 8 < 2) := by
  have h : ∀ q : Fin 32, (50529027#32 : BitVec 32).getLsbD q.val = decide (q.val % 8 < 2) := by decide
  exact h ⟨q, hq⟩

/-- The mask with the two low bits of a byte. -/
theorem three_bit (q : Nat) (hq : q < 8) : (3#8 : BitVec 8).getLsbD q = decide (q < 2) := by
  have h : ∀ q : Fin 8, (3#8 : BitVec 8).getLsbD q.val = decide (q.val < 2) := by decide
  exact h ⟨q, hq⟩

/-- The packed words shifted right by `s ≤ 6` bits and masked to the two low bits of every byte, read as bytes: each byte
    shifted right by `s` bits and masked to its two low bits. -/
theorem byte_field {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (s : BitVec 32) (hs : s.toNat ≤ 6) (p : Fin R) (l : Fin n) :
    bitcast ⟨2, ![R, n]⟩ 8 (andi (shrsi (bitcast ⟨2, ![r, n]⟩ 32 x h) (broadcast ⟨2, ![r, n]⟩ s)) (broadcast ⟨2, ![r, n]⟩ 50529027#32)) h' (ix2 p l)
      = (x (ix2 p l) >>> s.toNat) &&& 3#8 := by
  have hp := p.isLt
  apply BitVec.eq_of_getLsbD_eq
  intro q hq
  rw [byte_bit _ h' p l ⟨p.val / 4, by omega⟩ rfl q hq]
  show ((IntOp.shrsi .vector (bitcast ⟨2, ![r, n]⟩ 32 x h (ix2 ⟨p.val / 4, by omega⟩ l)) s) &&& 50529027#32).getLsbD (8 * (p.val % 4) + q) = _
  have es : IntOp.shrsi .vector (bitcast ⟨2, ![r, n]⟩ 32 x h (ix2 ⟨p.val / 4, by omega⟩ l)) s
      = (bitcast ⟨2, ![r, n]⟩ 32 x h (ix2 ⟨p.val / 4, by omega⟩ l)).sshiftRight' s := by
    unfold IntOp.shrsi
    rw [if_pos (by omega)]
  rw [es, BitVec.getLsbD_and, BitVec.getLsbD_and, mask_bit _ (by omega), three_bit q hq]
  by_cases h2 : q < 2
  · have h3 : (8 * (p.val % 4) + q) % 8 < 2 := by omega
    rw [decide_eq_true h2, decide_eq_true h3, Bool.and_true, Bool.and_true, BitVec.getLsbD_ushiftRight]
    rw [BitVec.sshiftRight', BitVec.getLsbD_sshiftRight, if_pos (by omega)]
    rw [word_bit x h ⟨p.val / 4, by omega⟩ l _ (by omega) p (by show p.val = 4 * (p.val / 4) + _; omega)]
    have e8 : (s.toNat + (8 * (p.val % 4) + q)) % 8 = s.toNat + q := by omega
    rw [e8]
    have hlt : ¬ 32 ≤ 8 * (p.val % 4) + q := by omega
    simp [hlt]
  · have h3 : ¬ (8 * (p.val % 4) + q) % 8 < 2 := by omega
    rw [decide_eq_false h2, decide_eq_false h3, Bool.and_false, Bool.and_false]

end Cert.Words

end
-- ==== Proof.Activations.lean ====
/-
  The reordered activations, read at an index: each column of the scratch buffer is one column of the activations.
-/
module

public import proofs.«01_k».proof.Proof.BodyIdeal
public import proofs.«01_k».proof.Proof.Lanes
public import proofs.«01_k».proof.Proof.Words

@[expose] public section

set_option maxRecDepth 16384

noncomputable section

namespace Cert.IdealRun

open Cert.KernelIdeal Cert.KernelIdeal.Gen
open Idealize.ShloMosaic

variable {F : FTy → Type} [FloatOps F]

/-- The lane indices as the gather takes them: a negative index counted from the end of the chunk. -/
def gatherIdx : IVec S256x32x128 32 :=
  shapeCast S256x32x128 (shapeCast S256x32x128x1
    (select (cmpi .slt laneIdx (broadcast S256x32x128 0#32)) (addi laneIdx (broadcast S256x32x128 128#32)) laneIdx)
    shapeCasts_S256x32x128_S256x32x128x1) shapeCasts_S256x32x128x1_S256x32x128

/-- No lane index is negative: the gather takes the source lanes themselves. -/
theorem gatherIdx_apply (p : Fin 256) (c : Fin 32) (l : Fin 128) :
    gatherIdx (ix3 p c l) = BitVec.ofNat 32 (16 * (l.val / 4 % 8) + 4 * (c.val % 4) + l.val % 4) := by
  unfold gatherIdx
  rw [shapeCast_comp, shapeCast_id]
  show Scalar.select (IntOp.cmpi .slt (laneIdx (ix3 p c l)) 0#32) (IntOp.addi (laneIdx (ix3 p c l)) 128#32) (laneIdx (ix3 p c l)) = _
  rw [laneIdx_apply]
  have h : ∀ n : Fin 128, Scalar.select (IntOp.cmpi .slt (BitVec.ofNat 32 n.val) 0#32) (IntOp.addi (BitVec.ofNat 32 n.val) 128#32) (BitVec.ofNat 32 n.val)
      = BitVec.ofNat 32 n.val := by decide +kernel
  exact h ⟨16 * (l.val / 4 % 8) + 4 * (c.val % 4) + l.val % 4, by omega⟩

/-- The words rotated by one of four amounts, chosen by the chunk's position. -/
def rolled (s0 s1 s2 s3 : BitVec 32) (W : IVec S256x4096 32) : IVec S256x4096 32 :=
  select (cmpi .eq chunkPos (broadcast S256x4096 0#32)) (dynamicRotate 1 s0 none W rotates_S256x4096_d1)
    (select (cmpi .eq chunkPos (broadcast S256x4096 1#32)) (dynamicRotate 1 s1 none W rotates_S256x4096_d1)
      (select (cmpi .eq chunkPos (broadcast S256x4096 2#32)) (dynamicRotate 1 s2 none W rotates_S256x4096_d1)
        (dynamicRotate 1 s3 none W rotates_S256x4096_d1)))

/-- A rotation by `s` columns of the 4096, at a column. -/
theorem rotate_apply (s : BitVec 32) (W : IVec S256x4096 32) (p : Fin 256) (l l' : Fin 4096) (h : l'.val = (l.val + 4096 - s.toNat % 4096) % 4096) :
    dynamicRotate 1 s none W rotates_S256x4096_d1 (ix2 p l) = W (ix2 p l') := by
  refine congrArg W (funext fun b => ?_)
  match b with
  | ⟨0, _⟩ => rfl
  | ⟨1, _⟩ => exact Fin.ext h.symm

/-- With the amounts of part `r`, a column of chunk `c` reads the same lane of chunk `4 * (c / 4) + r`. -/
theorem rolled_apply (r : Fin 4) (s0 s1 s2 s3 : BitVec 32)
    (h0 : s0.toNat = (4096 - 128 * r.val) % 4096) (h1 : s1.toNat = (4096 + 128 - 128 * r.val) % 4096)
    (h2 : s2.toNat = (4096 + 256 - 128 * r.val) % 4096) (h3 : s3.toNat = (4096 + 384 - 128 * r.val) % 4096)
    (W : IVec S256x4096 32) (p : Fin 256) (l l' : Fin 4096) (hl : l'.val = 512 * (l.val / 512) + 128 * r.val + l.val % 128) :
    rolled s0 s1 s2 s3 W (ix2 p l) = W (ix2 p l') := by
  have hr := r.isLt
  have hlt := l.isLt
  show Scalar.select (IntOp.cmpi .eq (chunkPos (ix2 p l)) 0#32) (dynamicRotate 1 s0 none W rotates_S256x4096_d1 (ix2 p l))
    (Scalar.select (IntOp.cmpi .eq (chunkPos (ix2 p l)) 1#32) (dynamicRotate 1 s1 none W rotates_S256x4096_d1 (ix2 p l))
      (Scalar.select (IntOp.cmpi .eq (chunkPos (ix2 p l)) 2#32) (dynamicRotate 1 s2 none W rotates_S256x4096_d1 (ix2 p l))
        (dynamicRotate 1 s3 none W rotates_S256x4096_d1 (ix2 p l)))) = _
  rw [chunkPos_apply]
  have hc : l.val / 128 % 4 = 0 ∨ l.val / 128 % 4 = 1 ∨ l.val / 128 % 4 = 2 ∨ l.val / 128 % 4 = 3 := by omega
  rcases hc with hc | hc | hc | hc
  · rw [hc]
    refine Eq.trans (show _ = dynamicRotate 1 s0 none W rotates_S256x4096_d1 (ix2 p l) from rfl) (rotate_apply s0 W p l l' ?_)
    rw [hl, h0]; omega
  · rw [hc]
    refine Eq.trans (show _ = dynamicRotate 1 s1 none W rotates_S256x4096_d1 (ix2 p l) from rfl) (rotate_apply s1 W p l l' ?_)
    rw [hl, h1]; omega
  · rw [hc]
    refine Eq.trans (show _ = dynamicRotate 1 s2 none W rotates_S256x4096_d1 (ix2 p l) from rfl) (rotate_apply s2 W p l l' ?_)
    rw [hl, h2]; omega
  · rw [hc]
    refine Eq.trans (show _ = dynamicRotate 1 s3 none W rotates_S256x4096_d1 (ix2 p l) from rfl) (rotate_apply s3 W p l l' ?_)
    rw [hl, h3]; omega

/-- One of the four gathered parts. -/
def part (s0 s1 s2 s3 : BitVec 32) (W : IVec S256x4096 32) : IVec S256x32x128 32 :=
  dynamicGather 2 (shapeCast S256x32x128 (rolled s0 s1 s2 s3 W) shapeCasts_S256x4096_S256x32x128) gatherIdx

/-- A vector of words laid out in 32 chunks of 128 lanes, at a chunk and a lane. -/
theorem chunks_apply (V : IVec S256x4096 32) (p : Fin 256) (c : Fin 32) (l : Fin 128) :
    shapeCast S256x32x128 V shapeCasts_S256x4096_S256x32x128 (ix3 p c l) = V (ix2 p ⟨128 * c.val + l.val, by omega⟩) := by
  rw [Pointwise.shapeCast_apply]
  congr 1
  refine Shape.reshapeEquiv_eq_of_vals _ _ _ _ _ (Shape.rowMajor_val_two _) (Shape.rowMajor_val_three _) ?_
  show p.val * 4096 + (128 * c.val + l.val) = (p.val * 32 + c.val) * 128 + l.val
  omega

/-- The same words laid out in rows of 4096 columns again. -/
theorem rows_apply (V : IVec S256x32x128 32) (p : Fin 256) (l : Fin 4096) :
    shapeCast S256x4096 V shapeCasts_S256x32x128_S256x4096 (ix2 p l) = V (ix3 p ⟨l.val / 128, by omega⟩ ⟨l.val % 128, by omega⟩) := by
  rw [Pointwise.shapeCast_apply]
  congr 1
  refine Shape.reshapeEquiv_eq_of_vals _ _ _ _ _ (Shape.rowMajor_val_three _) (Shape.rowMajor_val_two _) ?_
  show (p.val * 32 + l.val / 128) * 128 + l.val % 128 = p.val * 4096 + l.val
  omega

/-- Part `r` at chunk `c` and lane `l`. -/
theorem part_apply (r : Fin 4) (s0 s1 s2 s3 : BitVec 32)
    (h0 : s0.toNat = (4096 - 128 * r.val) % 4096) (h1 : s1.toNat = (4096 + 128 - 128 * r.val) % 4096)
    (h2 : s2.toNat = (4096 + 256 - 128 * r.val) % 4096) (h3 : s3.toNat = (4096 + 384 - 128 * r.val) % 4096)
    (W : IVec S256x4096 32) (p : Fin 256) (c : Fin 32) (l : Fin 128) (l' : Fin 4096)
    (hl : l'.val = 512 * (c.val / 4) + 128 * r.val + (16 * (l.val / 4 % 8) + 4 * (c.val % 4) + l.val % 4)) :
    part s0 s1 s2 s3 W (ix3 p c l) = W (ix2 p l') := by
  have hlane : 16 * (l.val / 4 % 8) + 4 * (c.val % 4) + l.val % 4 < 128 := by omega
  have hg : part s0 s1 s2 s3 W (ix3 p c l) = shapeCast S256x32x128 (rolled s0 s1 s2 s3 W) shapeCasts_S256x4096_S256x32x128
      (ix3 p c ⟨16 * (l.val / 4 % 8) + 4 * (c.val % 4) + l.val % 4, hlane⟩) := by
    unfold part dynamicGather
    congr 1
    funext b
    match b with
    | ⟨0, _⟩ => rfl
    | ⟨1, _⟩ => rfl
    | ⟨2, _⟩ =>
      refine Fin.ext ?_
      show (gatherIdx (ix3 p c l)).toNat % 128 = _
      rw [gatherIdx_apply, BitVec.toNat_ofNat]
      show _ = 16 * (l.val / 4 % 8) + 4 * (c.val % 4) + l.val % 4
      omega
  rw [hg, chunks_apply]
  refine rolled_apply r s0 s1 s2 s3 h0 h1 h2 h3 W p _ l' ?_
  rw [hl]
  generalize 16 * (l.val / 4 % 8) + 4 * (c.val % 4) + l.val % 4 = y at hlane ⊢
  show _ = 512 * ((128 * c.val + y) / 512) + 128 * r.val + (128 * c.val + y) % 128
  omega

/-- The four parts merged, one band of lanes from each. -/
def merged (W : IVec S256x4096 32) : IVec S256x32x128 32 :=
  select (cmpi .eq band (broadcast S256x32x128 0#32)) (part 0#32 128#32 256#32 384#32 W)
    (select (cmpi .eq band (broadcast S256x32x128 1#32)) (part 3968#32 0#32 128#32 256#32 W)
      (select (cmpi .eq band (broadcast S256x32x128 2#32)) (part 3840#32 3968#32 0#32 128#32 W)
        (part 3712#32 3840#32 3968#32 0#32 W)))

/-- The merged words at chunk `c` and lane `l`. -/
theorem merged_apply (W : IVec S256x4096 32) (p : Fin 256) (c : Fin 32) (l : Fin 128) (l' : Fin 4096)
    (hl : l'.val = 512 * (c.val / 4) + 16 * (l.val / 4) + 4 * (c.val % 4) + l.val % 4) :
    merged W (ix3 p c l) = W (ix2 p l') := by
  have hlt := l.isLt
  show Scalar.select (IntOp.cmpi .eq (band (ix3 p c l)) 0#32) (part 0#32 128#32 256#32 384#32 W (ix3 p c l))
    (Scalar.select (IntOp.cmpi .eq (band (ix3 p c l)) 1#32) (part 3968#32 0#32 128#32 256#32 W (ix3 p c l))
      (Scalar.select (IntOp.cmpi .eq (band (ix3 p c l)) 2#32) (part 3840#32 3968#32 0#32 128#32 W (ix3 p c l))
        (part 3712#32 3840#32 3968#32 0#32 W (ix3 p c l)))) = _
  rw [band_apply]
  have hb : l.val / 32 = 0 ∨ l.val / 32 = 1 ∨ l.val / 32 = 2 ∨ l.val / 32 = 3 := by omega
  rcases hb with hb | hb | hb | hb
  · rw [hb]
    refine Eq.trans (show _ = part 0#32 128#32 256#32 384#32 W (ix3 p c l) from rfl) (part_apply 0 _ _ _ _ rfl rfl rfl rfl W p c l l' ?_)
    rw [hl]; show _ = _ + 128 * 0 + _; omega
  · rw [hb]
    refine Eq.trans (show _ = part 3968#32 0#32 128#32 256#32 W (ix3 p c l) from rfl) (part_apply 1 _ _ _ _ rfl rfl rfl rfl W p c l l' ?_)
    rw [hl]; show _ = _ + 128 * 1 + _; omega
  · rw [hb]
    refine Eq.trans (show _ = part 3840#32 3968#32 0#32 128#32 W (ix3 p c l) from rfl) (part_apply 2 _ _ _ _ rfl rfl rfl rfl W p c l l' ?_)
    rw [hl]; show _ = _ + 128 * 2 + _; omega
  · rw [hb]
    refine Eq.trans (show _ = part 3712#32 3840#32 3968#32 0#32 W (ix3 p c l) from rfl) (part_apply 3 _ _ _ _ rfl rfl rfl rfl W p c l l' ?_)
    rw [hl]; show _ = _ + 128 * 3 + _; omega

/-- The column of the activations that column `k` of the scratch buffer holds. -/
def col (k : Fin 4096) : Fin 4096 := ⟨512 * (k.val / 512) + 16 * (k.val % 128 / 4) + 4 * (k.val / 128 % 4) + k.val % 4, by omega⟩

/-- What the scratch buffer receives is the merged words read as bytes, converted. -/
theorem permA_eq (X : Vec F S1024x4096 .i8) :
    permA X = sitofp .bf16 (bitcast S1024x4096 8 (shapeCast S256x4096 (merged (k0_pay3 X)) shapeCasts_S256x32x128_S256x4096)
      bitcasts_S256x4096_w32_S1024x4096_w8) :=
  (show permA X = shapeCast S1024x4096 (sitofp .bf16 (bitcast S1024x4096 8 (shapeCast S256x4096 (merged (k0_pay3 X)) shapeCasts_S256x32x128_S256x4096)
      bitcasts_S256x4096_w32_S1024x4096_w8)) shapeCasts_S1024x4096_S1024x4096 from rfl).trans (shapeCast_id _ _)

/-- Column `k` of the reordered activations is the converted column `col k` of the activations. -/
theorem permA_apply (X : Vec F S1024x4096 .i8) (n : Fin 1024) (k : Fin 4096) :
    permA X (ix2 n k) = FloatOps.sitofp .bf16 (X (ix2 n (col k)) : BitVec 8) := by
  have hk := k.isLt
  rw [permA_eq]
  refine congrArg (FloatOps.sitofp .bf16) (Words.byte_of_column (R := 1024) (r := 256) (n := 4096) (n' := 4096) X bitcasts_S1024x4096_w8_S256x4096_w32
    _ bitcasts_S256x4096_w32_S1024x4096_w8 rfl k (col k) (fun a => ?_) n)
  rw [rows_apply]
  refine merged_apply _ _ _ _ _ ?_
  show 512 * (k.val / 512) + 16 * (k.val % 128 / 4) + 4 * (k.val / 128 % 4) + k.val % 4
    = 512 * (k.val / 128 / 4) + 16 * (k.val % 128 / 4) + 4 * (k.val / 128 % 4) + k.val % 128 % 4
  omega

end Cert.IdealRun

end
-- ==== Proof.Weights.lean ====
/-
  The unpacked weights, read at an index: column `k` of the unpacked block is a two-bit field of one packed byte.
-/
module

public import proofs.«01_k».proof.Proof.BodyIdeal
public import proofs.«01_k».proof.Proof.Words
public import Idealize.ShloMosaic.Lib.Pipeline.Value

@[expose] public section

set_option maxRecDepth 16384

noncomputable section

namespace Cert.IdealRun

open Cert.KernelIdeal Cert.KernelIdeal.Gen
open Idealize.ShloMosaic

variable {F : FTy → Type} [FloatOps F]

/-- One slab: every packed byte shifted right by the same amount and masked to two bits, converted. -/
def slab (s : BitVec 32) (Y : Vec F S1024x1024 .i8) : FVec F S1024x1024 .bf16 :=
  sitofp .bf16 (bitcast S1024x1024 8 (andi (shrsi (k0_pay27 Y) (broadcast S256x1024 s)) (broadcast S256x1024 50529027#32)) bitcasts_S256x1024_w32_S1024x1024_w8)

/-- A slab's entry is the masked shift of the packed byte at the same place. -/
theorem slab_apply (s : BitVec 32) (hs : s.toNat ≤ 6) (Y : Vec F S1024x1024 .i8) (n l : Fin 1024) :
    slab s Y (ix2 n l) = FloatOps.sitofp .bf16 (((Y (ix2 n l) : BitVec 8) >>> s.toNat) &&& 3#8) :=
  congrArg (FloatOps.sitofp .bf16) (Words.byte_field (R := 1024) (r := 256) (n := 1024) Y bitcasts_S1024x1024_w8_S256x1024_w32
    bitcasts_S256x1024_w32_S1024x1024_w8 rfl s hs n l)

/-- Every column offset a piece is cut at leaves room for its 128 columns. -/
theorem piece_slices (n : Fin 32) : S1024x1024.Slices ![0, 128 * (n.val / 4)] S1024x128 := by
  revert n; decide

/-- Piece `n` of the concatenated weights: 128 columns of one slab. -/
def piece (Y : Vec F S1024x1024 .i8) (n : Fin 32) : FVec F S1024x128 .bf16 :=
  extractStridedSlice S1024x128 ![0, 128 * (n.val / 4)] (slab (BitVec.ofNat 32 (2 * (n.val % 4))) Y) (piece_slices n)

/-- The unpacked block is its 32 pieces side by side. -/
theorem unpackB_eq (Y : Vec F S1024x1024 .i8) :
    ∃ h, unpackB Y = concatenate S1024x4096 1 (List.ofFn fun n : Fin 32 => (⟨S1024x128, piece Y n⟩ : (s : Shape) × (s.Idx → F .bf16))) h :=
  ⟨concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x4096_d1, rfl⟩

/-- Column `k` of the unpacked weights is field `(k / 128) % 4` of the packed byte in column `128 * (k / 512) + k % 128`. -/
theorem unpackB_apply (Y : Vec F S1024x1024 .i8) (n : Fin 1024) (k : Fin 4096) :
    unpackB Y (ix2 n k) = FloatOps.sitofp .bf16
      (((Y (ix2 n ⟨128 * (k.val / 512) + k.val % 128, by omega⟩) : BitVec 8) >>> (2 * (k.val / 128 % 4))) &&& 3#8) := by
  obtain ⟨h, e⟩ := unpackB_eq Y
  have hk := k.isLt
  rw [e]
  refine (concatenate_ofFn_apply (t := S1024x4096) (s₁ := S1024x128) 1 (fun n => piece Y n) h rfl 128 rfl (ix2 n k) ⟨k.val / 128, by omega⟩ rfl
    (ix2 n ⟨k.val % 128, by omega⟩) rfl ?_).trans ?_
  · intro b hb
    match b with
    | ⟨0, _⟩ => rfl
    | ⟨1, _⟩ => exact absurd rfl hb
  · have hw : (BitVec.ofNat 32 (2 * (k.val / 128 % 4))).toNat = 2 * (k.val / 128 % 4) := by
      rw [BitVec.toNat_ofNat]; omega
    have hi : piece Y ⟨k.val / 128, by omega⟩ (ix2 n ⟨k.val % 128, by omega⟩)
        = slab (BitVec.ofNat 32 (2 * (k.val / 128 % 4))) Y (ix2 n ⟨128 * (k.val / 512) + k.val % 128, by omega⟩) := by
      unfold piece extractStridedSlice
      congr 1
      funext a
      match a with
      | ⟨0, _⟩ => exact Fin.ext (Nat.zero_add _)
      | ⟨1, _⟩ => exact Fin.ext (show 128 * (k.val / 128 / 4) + k.val % 128 = 128 * (k.val / 512) + k.val % 128 by omega)
    rw [hi, slab_apply _ (by omega), hw]

end Cert.IdealRun

end
-- ==== Proof.Sums.lean ====
/-
  The function both programs compute: integer dot products of the activations with the two-bit weights, as 32-bit words; and
  the sums of words, of integers and of extended reals it is read from.
-/
module

public import Idealize.ShloMosaic.Lib.Pointwise
public import Idealize.ShloMosaic.PureOps.Reduce

@[expose] public section

noncomputable section

namespace Cert.Sums

open Idealize.ShloMosaic

/-- The weight of row `n` and column `k`: field `(k % 16) / 4` of the packed byte in column `4 * (k / 16) + k % 4`. -/
def weight (B : (⟨2, ![11008, 1024]⟩ : Shape).Idx → BitVec 8) (n : Fin 11008) (k : Fin 4096) : BitVec 8 :=
  (B (ix2 n ⟨4 * (k.val / 16) + k.val % 4, by omega⟩) >>> (2 * (k.val % 16 / 4))) &&& 3#8

/-- The integer dot product of row `a` of the activations and row `n` of the weights. -/
def dot (A : (⟨2, ![1024, 4096]⟩ : Shape).Idx → BitVec 8) (B : (⟨2, ![11008, 1024]⟩ : Shape).Idx → BitVec 8) (a : Fin 1024) (n : Fin 11008) : Int :=
  ∑ k : Fin 4096, (A (ix2 a k)).toInt * (weight B n k).toInt

/-- The array of the dot products, as 32-bit words. -/
def dots (A : (⟨2, ![1024, 4096]⟩ : Shape).Idx → BitVec 8) (B : (⟨2, ![11008, 1024]⟩ : Shape).Idx → BitVec 8) :
    (⟨2, ![1024, 11008]⟩ : Shape).Idx → BitVec 32 :=
  fun j => BitVec.ofInt 32 (dot A B (j 0) (j 1))

/-- Adding up words that are integers' words, from zero, gives the word of the integers' sum. -/
theorem fold_addi_ofInt {ι : Type} (S : Finset ι) (z : ι → Int) :
    S.fold IntOp.addi 0#32 (fun i => BitVec.ofInt 32 (z i)) = BitVec.ofInt 32 (∑ i ∈ S, z i) := by
  classical
  induction S using Finset.cons_induction with
  | empty => rfl
  | cons a S ha ih =>
    rw [Finset.fold_cons, Finset.sum_cons, ih, BitVec.ofInt_add]
    rfl

/-- The word of a product of two sign-extended bytes. -/
theorem muli_signExtend (x y : BitVec 8) : IntOp.muli (x.signExtend 32) (y.signExtend 32) = BitVec.ofInt 32 (x.toInt * y.toInt) := by
  rw [BitVec.ofInt_mul]
  rfl

/-- A two-bit field of a byte is an integer from 0 to 3. -/
theorem field_bounds (b : BitVec 8) : 0 ≤ (b &&& 3#8).toInt ∧ (b &&& 3#8).toInt ≤ 3 := by
  have h : ∀ n : Fin (2 ^ 8), 0 ≤ ((BitVec.ofFin n : BitVec 8) &&& 3#8).toInt ∧ ((BitVec.ofFin n : BitVec 8) &&& 3#8).toInt ≤ 3 := by decide +kernel
  exact h b.toFin

/-- The dot product of 4096 bytes with 4096 two-bit weights fits a signed 32-bit word. -/
theorem dot_bounds (A : (⟨2, ![1024, 4096]⟩ : Shape).Idx → BitVec 8) (B : (⟨2, ![11008, 1024]⟩ : Shape).Idx → BitVec 8) (a : Fin 1024) (n : Fin 11008) :
    -1572864 ≤ dot A B a n ∧ dot A B a n ≤ 1572864 := by
  have hb : ∀ k : Fin 4096, -384 ≤ (A (ix2 a k)).toInt * (weight B n k).toInt ∧ (A (ix2 a k)).toInt * (weight B n k).toInt ≤ 384 := by
    intro k
    obtain ⟨h0, h3⟩ := field_bounds (B (ix2 n ⟨4 * (k.val / 16) + k.val % 4, by omega⟩) >>> (2 * (k.val % 16 / 4)))
    have h1 := BitVec.le_toInt (A (ix2 a k))
    have h2 := BitVec.toInt_lt (x := A (ix2 a k))
    have hp : ∀ x y : Int, -128 ≤ x → x < 128 → 0 ≤ y → y ≤ 3 → -384 ≤ x * y ∧ x * y ≤ 384 := fun x y hx hx' hy hy' =>
      ⟨by nlinarith, by nlinarith⟩
    exact hp _ _ (by simpa using h1) (by simpa using h2) h0 h3
  unfold dot
  constructor
  · have := Finset.sum_le_sum (s := Finset.univ) fun k (_ : k ∈ (Finset.univ : Finset (Fin 4096))) => (hb k).1
    simpa using this
  · have := Finset.sum_le_sum (s := Finset.univ) fun k (_ : k ∈ (Finset.univ : Finset (Fin 4096))) => (hb k).2
    simpa using this

/-- A sum of products of integers taken in the extended reals is the integers' sum of products. -/
theorem sum_coe {ι : Type} (S : Finset ι) (x y : ι → Int) :
    ∑ i ∈ S, (((x i : ℝ) : EReal) * ((y i : ℝ) : EReal)) = (((∑ i ∈ S, x i * y i : Int) : ℝ) : EReal) := by
  classical
  induction S using Finset.cons_induction with
  | empty => simp
  | cons a S ha ih =>
    rw [Finset.sum_cons, Finset.sum_cons, ih, ← EReal.coe_mul, ← EReal.coe_add]
    push_cast
    rfl

/-- An integer that fits a signed 32-bit word, converted from the extended reals, is its word. -/
theorem fptosi_coe (z : Int) (h1 : -2147483648 ≤ z) (h2 : z ≤ 2147483647) : Ideal.fptosi 32 ((z : ℝ) : EReal) = BitVec.ofInt 32 z := by
  unfold Ideal.fptosi
  rw [Ideal.toIntClamped_coe, Int.floor_intCast, Int.ceil_intCast, ite_self, min_eq_right (by norm_num; omega), max_eq_right (by norm_num; omega)]

end Cert.Sums

end
-- ==== Proof.Product.lean ====
/-
  The body's result block at the ideal instance: each entry is the integer dot product of a row of the activations and a row
  of the weights, as a word.
-/
module

public import proofs.«01_k».proof.Proof.Activations
public import proofs.«01_k».proof.Proof.Weights
public import proofs.«01_k».proof.Proof.Sums

@[expose] public section

set_option maxRecDepth 16384

noncomputable section

namespace Cert.IdealRun

open Cert.KernelIdeal Cert.KernelIdeal.Gen
open Idealize.ShloMosaic

/-- A result entry is the converted sum, over the scratch buffer's columns, of the products of the two rows. -/
theorem outBlk_apply (S : Vec Ideal S1024x4096 .bf16) (Y : Vec Ideal S1024x1024 .i8) (a n : Fin 1024) :
    outBlk S Y (ix2 a n) = Ideal.fptosi 32 (∑ k : Fin 4096, (S (ix2 a k) : EReal) * (unpackB Y (ix2 n k) : EReal)) := by
  unfold outBlk k0_pay2
  pointwise
  rfl

/-- A number below 4096 written with the digits of `col` determines the digits. -/
theorem digits_eq (a b c d a' b' c' d' : Nat) (hb : b < 32) (hc : c < 4) (hd : d < 4) (hb' : b' < 32) (hc' : c' < 4) (hd' : d' < 4)
    (h : 512 * a + 16 * b + 4 * c + d = 512 * a' + 16 * b' + 4 * c' + d') : a = a' ∧ b = b' ∧ c = c' ∧ d = d' := by
  omega

/-- No two columns of the scratch buffer hold the same column of the activations, and every column is held. -/
theorem col_bijective : Function.Bijective col := by
  refine Finite.injective_iff_bijective.mp fun k k' h => ?_
  have hv := congrArg Fin.val h
  have h1 := k.isLt
  have h2 := k'.isLt
  unfold col at hv
  simp only at hv
  obtain ⟨e1, e2, e3, e4⟩ := digits_eq _ _ _ _ _ _ _ _ (by omega) (by omega) (by omega) (by omega) (by omega) (by omega) hv
  have d1 : k.val = 512 * (k.val / 512) + 128 * (k.val / 128 % 4) + 4 * (k.val % 128 / 4) + k.val % 4 := by omega
  have d2 : k'.val = 512 * (k'.val / 512) + 128 * (k'.val / 128 % 4) + 4 * (k'.val % 128 / 4) + k'.val % 4 := by omega
  refine Fin.ext (d1.trans (Eq.trans ?_ d2.symm))
  rw [e1, e2, e3, e4]

/-- A result entry, where the block's row `n` holds the packed weights' row `n'`: the word of the dot product. -/
theorem outBlk_dot (A : Vec Ideal S1024x4096 .i8) (B : (⟨2, ![11008, 1024]⟩ : Shape).Idx → BitVec 8) (Y : Vec Ideal S1024x1024 .i8) (a n : Fin 1024) (n' : Fin 11008)
    (hY : ∀ l : Fin 1024, Y (ix2 n l) = B (ix2 n' l)) :
    outBlk (permA A) Y (ix2 a n) = BitVec.ofInt 32 (Sums.dot A B a n') := by
  have hw : ∀ k : Fin 4096, unpackB Y (ix2 n k) = (((Sums.weight B n' (col k)).toInt : ℝ) : EReal) := fun k => by
    have hk := k.isLt
    rw [unpackB_apply, hY]
    have e1 : (⟨128 * (k.val / 512) + k.val % 128, by omega⟩ : Fin 1024) = ⟨4 * ((col k).val / 16) + (col k).val % 4, by omega⟩ := by
      refine Fin.ext ?_
      show 128 * (k.val / 512) + k.val % 128 = 4 * ((512 * (k.val / 512) + 16 * (k.val % 128 / 4) + 4 * (k.val / 128 % 4) + k.val % 4) / 16)
        + (512 * (k.val / 512) + 16 * (k.val % 128 / 4) + 4 * (k.val / 128 % 4) + k.val % 4) % 4
      omega
    have e2 : k.val / 128 % 4 = (col k).val % 16 / 4 := by
      show k.val / 128 % 4 = (512 * (k.val / 512) + 16 * (k.val % 128 / 4) + 4 * (k.val / 128 % 4) + k.val % 4) % 16 / 4
      omega
    rw [e1, e2]
    rfl
  have hs : ∑ k : Fin 4096, (permA A (ix2 a k) : EReal) * (unpackB Y (ix2 n k) : EReal) = ((Sums.dot A B a n' : ℝ) : EReal) := by
    refine Eq.trans (Finset.sum_congr rfl fun k _ => ?_) ((col_bijective.sum_comp fun k : Fin 4096 =>
      (((A (ix2 a k) : BitVec 8).toInt : ℝ) : EReal) * (((Sums.weight B n' k).toInt : ℝ) : EReal)).trans
        (Sums.sum_coe Finset.univ (fun k => (A (ix2 a k) : BitVec 8).toInt) fun k => (Sums.weight B n' k).toInt))
    exact congrArg₂ (fun x y : EReal => x * y) (permA_apply A a k) (hw k)
  obtain ⟨h1, h2⟩ := Sums.dot_bounds A B a n'
  rw [outBlk_apply, hs, Sums.fptosi_coe _ (by omega) (by omega)]

end Cert.IdealRun

end
-- ==== Proof.Value.lean ====
/-
  The idealized program's result array: every entry is the word of the integer dot product of the arguments' rows, and the
  program's frame.
-/
module

public import proofs.«01_k».proof.Defs
public import proofs.«01_k».proof.Proof.RunIdeal
public import proofs.«01_k».proof.Proof.Product
public import Idealize.ShloMosaic.Lib.Pipeline.ValueKit.Geometry

@[expose] public section

set_option maxRecDepth 16384

noncomputable section

namespace Cert.IdealRun

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The packed weights as launched on core `c`. -/
abbrev arrB (c : Dev nD) : (⟨2, ![11008, 1024]⟩ : Shape).Idx → BitVec 8 := m ((c : Thread nD τ).loc main_arg1)

/-- The dot products of the arguments' rows: what the result array is shown to hold. -/
abbrev res (c : Dev nD) : S1024x11008.Idx → Elt Ideal .i32 := Sums.dots (arrA m c) (arrB m c)

/-- The weights' blocks: point `t` takes the rows from `1024 * t` on, as many as the array has, and all columns. -/
theorem wts_geometry (t : Fin cfg0.N) : win0_1.index t 0 * win0_1.size 0 = 1024 * t.val
    ∧ win0_1.index t 1 * win0_1.size 1 = 0 ∧ win0_1.xsize (grid0.coords t) 1 = 1024 := by
  rcases fin_N0 t with rfl | rfl | rfl | rfl | rfl | rfl | rfl | rfl | rfl | rfl | rfl <;> decide +kernel

/-- The result's blocks: point `t` takes all rows and the columns from `1024 * t` on, as many as the weights' block has rows. -/
theorem res_geometry (t : Fin cfg0.N) : win0_2.index t 0 * win0_2.size 0 = 0
    ∧ win0_2.index t 1 * win0_2.size 1 = 1024 * t.val ∧ win0_2.xsize (grid0.coords t) 0 = 1024
    ∧ win0_2.xsize (grid0.coords t) 1 = win0_1.xsize (grid0.coords t) 0 ∧ win0_2.xsize (grid0.coords t) 1 ≤ 1024
    ∧ 1024 * t.val + win0_2.xsize (grid0.coords t) 1 ≤ 11008 := by
  rcases fin_N0 t with rfl | rfl | rfl | rfl | rfl | rfl | rfl | rfl | rfl | rfl | rfl <;> decide +kernel

/-- A row of the staged weights that lies in the array is that row of the packed weights, whatever is staged past the end. -/
theorem wts_row (c : Dev nD) (t : Fin cfg0.N) (d : S1024x1024.Idx → Elt Ideal .i8) (n : Fin 1024) (n' : Fin 11008)
    (hn : n.val < win0_1.xsize (grid0.coords t) 0) (hn' : n'.val = 1024 * t.val + n.val) (l : Fin 1024) :
    win0_1.fill (grid0.coords t) d (iblk m c 1 t) (ix2 n l) = arrB m c (ix2 n' l) := by
  obtain ⟨g0, g1, g2⟩ := wts_geometry t
  have hm : win0_1.moved (grid0.coords t) (ix2 n l) = true := (win0_1.moved_iff _ _).mpr fun a => by
    match a with
    | ⟨0, _⟩ => exact hn
    | ⟨1, _⟩ => exact lt_of_lt_of_eq l.isLt g2.symm
  unfold Pipeline.Window.fill
  rw [dif_pos hm]
  refine congrArg (m ((c : Thread nD τ).loc main_arg1)) (funext fun a => ?_)
  match a with
  | ⟨0, _⟩ => exact Fin.ext (show win0_1.index t 0 * win0_1.size 0 + 1 * n.val = n'.val by rw [g0, hn']; omega)
  | ⟨1, _⟩ => exact Fin.ext (show win0_1.index t 1 * win0_1.size 1 + 1 * l.val = l.val by rw [g1]; omega)

/-- The body's result block agrees with the dot products on the columns inside the array. -/
theorem agrees (c : Dev nD) : Agrees m (res m) c := fun t d => by
  funext y
  obtain ⟨g0, g1, x0, x1, x2, x3⟩ := res_geometry t
  have hy0 : (y 0).val < 1024 := lt_of_lt_of_eq (y 0).isLt x0
  have hy1 : (y 1).val < win0_2.xsize (grid0.coords t) 1 := (y 1).isLt
  have hA : win0_2.xinj (grid0.coords t) y = ix2 (⟨(y 0).val, hy0⟩ : Fin 1024) (⟨(y 1).val, by omega⟩ : Fin 1024) := funext fun a => by
    match a with
    | ⟨0, _⟩ => rfl
    | ⟨1, _⟩ => rfl
  have hB : (win0_2.rect t).emb y = ix2 (⟨(y 0).val, hy0⟩ : Fin 1024) (⟨1024 * t.val + (y 1).val, by omega⟩ : Fin 11008) := funext fun a => by
    match a with
    | ⟨0, _⟩ => exact Fin.ext (show win0_2.index t 0 * win0_2.size 0 + 1 * (y 0).val = (y 0).val by rw [g0]; omega)
    | ⟨1, _⟩ => exact Fin.ext (show win0_2.index t 1 * win0_2.size 1 + 1 * (y 1).val = 1024 * t.val + (y 1).val by rw [g1]; omega)
  refine Eq.trans (congrArg (outBlk (permA (arrA m c)) (win0_1.fill (grid0.coords t) d (iblk m c 1 t))) hA) ?_
  refine Eq.trans ?_ (congrArg (res m c) hB).symm
  exact outBlk_dot (arrA m c) (arrB m c) _ _ _ _ fun l => wts_row m c t d _ _ (lt_of_lt_of_eq hy1 x1) rfl l

/-- Every entry of the result array lies in some point's block. -/
theorem covered : win0_2.Covers := by decide +kernel

/-- The result array ends holding the dot products. -/
theorem final_value (c : Dev nD) : (dats m (res m) 0 c).arrAt (2 : Fin 3) cfg0.N = res m c :=
  (dats m (res m) 0 c).arrAt_eq_of_cover 2 (res m c) (fun t _ => win0_2.cut_fill (grid0.coords t) _ (resBlk (res m) c t))
    fun i => Pipeline.Window.Covers.cover win0_2 covered (Memref.isWhole_whole _) i

/-- Every weakly fair run ends with the result array at the dot products, the arguments as launched and every counter at zero. -/
theorem run : θ_run (defs (F := Ideal)) (onTc (τ := τ) (main (F := Ideal))) ⟨m, fun _ => 0, ρ⟩ fun r =>
    (∀ c : Dev nD, r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨((h.1 c).1 2).trans (final_value m c),
      ((h.1 c).1 0).trans ((dats m (res m) 0 c).arrAt_in 0 rfl _), ((h.1 c).1 1).trans ((dats m (res m) 0 c).arrAt_in 1 rfl _)⟩, h.2⟩)
    (run_main m ρ (res m) (agrees m))

/-- The idealized kernel runs, its arguments end unchanged and every semaphore counter ends at zero. -/
theorem quiescent : Cert.quiescent_KernelIdeal := fun m ρ _ =>
  (θ_run defs _ _).mono (fun _ h => ⟨fun c => (h.1 c).2, h.2⟩) (run m ρ)

end Cert.IdealRun

end
-- ==== Proof.Reference.lean ====
/-
  The reference's value: its result array holds the dot products of the activations and the unpacked weights.
-/
module

public import proofs.«01_k».proof.Proof.Gen.ReferenceIdeal.Run
public import proofs.«01_k».proof.Proof.Sums

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The packed bytes read unsigned, four to a group. -/
def groups (B : IVec S11008x1024 8) : IVec S11008x256x1x4 32 :=
  shapeCast _ (andi (extsi 32 B natLt_8_32) (broadcastInDim S11008x1024 ![] bcast_S_S11008x1024 (constantI S_ 32 255#32))) shapeCasts_S11008x1024_S11008x256x1x4

/-- The four shift amounts. -/
def shifts : IVec S1x1x4x1 32 :=
  shapeCast _ (muli (iotaInDim S4 32 0) (broadcastInDim S4 ![] bcast_S_S4 (constantI S_ 32 2#32))) shapeCasts_S4_S1x1x4x1

/-- The unpacked weights as the reference lays them out before it flattens them. -/
def fields (B : IVec S11008x1024 8) : IVec S11008x256x4x4 32 :=
  andi (Host.shrsi (broadcastInDim S11008x256x4x4 ![0, 1, 2, 3] bcast_S11008x256x1x4_S11008x256x4x4_0_1_2_3 (groups B))
      (broadcastInDim S11008x256x4x4 ![0, 1, 2, 3] bcast_S1x1x4x1_S11008x256x4x4_0_1_2_3 shifts))
    (broadcastInDim S11008x256x4x4 ![] bcast_S_S11008x256x4x4 (constantI S_ 32 3#32))

/-- The unpacked weights, one byte each. -/
def unpacked (B : IVec S11008x1024 8) : IVec S11008x4096 8 :=
  trunci 8 (shapeCast _ (fields B) shapeCasts_S11008x256x4x4_S11008x4096) natLt_8_32

/-- The reference's result as a function of its two arguments. -/
def result (A : IVec S1024x4096 8) (B : IVec S11008x1024 8) : IVec S1024x11008 32 :=
  Host.reduce IntOp.addi (muli
      (broadcastInDim S1024x11008x4096 ![0, 1, 2] bcast_S1024x1x4096_S1024x11008x4096_0_1_2
        (broadcastInDim S1024x1x4096 ![0, 2] bcast_S1024x4096_S1024x1x4096_0_2 (extsi 32 A natLt_8_32)))
      (broadcastInDim S1024x11008x4096 ![0, 1, 2] bcast_S1x11008x4096_S1024x11008x4096_0_1_2
        (broadcastInDim S1x11008x4096 ![1, 2] bcast_S11008x4096_S1x11008x4096_1_2 (extsi 32 (unpacked B) natLt_8_32))))
    (constantI S_ 32 0#32) reducesTo_S1024x11008x4096_S1024x11008_d2 h_S_

/-- A byte of a group is the packed byte of that column, read unsigned. -/
theorem groups_apply (B : IVec S11008x1024 8) (n : Fin 11008) (g : Fin 256) (j : Fin 4) :
    groups B (ix4 n g 0 j) = IntOp.andi ((B (ix2 n ⟨4 * g.val + j.val, by omega⟩)).signExtend 32) 255#32 := by
  unfold groups
  rw [Pointwise.shapeCast_apply]
  have e : Shape.reshapeEquiv shapeCasts_S11008x1024_S11008x256x1x4 (ix4 n g 0 j) = ix2 n ⟨4 * g.val + j.val, by omega⟩ := by
    refine Shape.reshapeEquiv_eq_of_vals _ _ _ _ _ (Shape.rowMajor_val_two _) (Shape.rowMajor_val_four _) ?_
    show n.val * 1024 + (4 * g.val + j.val) = ((n.val * 256 + g.val) * 1 + 0) * 4 + j.val
    omega
  rw [e]
  rfl

/-- The `i`-th shift amount is `2 * i`. -/
theorem shifts_apply (i : Fin 4) : shifts (ix4 0 0 i 0) = IntOp.muli (BitVec.ofNat 32 i.val) 2#32 := by
  unfold shifts
  rw [Pointwise.shapeCast_apply]
  have e : Shape.reshapeEquiv shapeCasts_S4_S1x1x4x1 (ix4 0 0 i 0) = ix1 i := by
    refine Shape.reshapeEquiv_eq_of_vals _ _ _ _ _ (Shape.rowMajor_val_one _) (Shape.rowMajor_val_four _) ?_
    show i.val = ((0 * 1 + 0) * 4 + i.val) * 1 + 0
    omega
  rw [e]
  rfl

/-- The unsigned byte shifted right by `2 * i` and masked to two bits, as a byte: the byte itself so shifted and masked. -/
theorem byte_field (b : BitVec 8) (i : Fin 4) :
    (IntOp.andi (IntOp.shrsi .host (IntOp.andi (b.signExtend 32) 255#32) (IntOp.muli (BitVec.ofNat 32 i.val) 2#32)) 3#32).setWidth 8
      = (b >>> (2 * i.val)) &&& 3#8 := by
  have h : ∀ (i : Fin 4) (n : Fin (2 ^ 8)),
      (IntOp.andi (IntOp.shrsi .host (IntOp.andi ((BitVec.ofFin n : BitVec 8).signExtend 32) 255#32) (IntOp.muli (BitVec.ofNat 32 i.val) 2#32)) 3#32).setWidth 8
        = ((BitVec.ofFin n : BitVec 8) >>> (2 * i.val)) &&& 3#8 := by decide +kernel
  exact h i b.toFin

/-- The unpacked weights at a row and a column. -/
theorem unpacked_apply (B : IVec S11008x1024 8) (n : Fin 11008) (k : Fin 4096) : unpacked B (ix2 n k) = Sums.weight B n k := by
  have hk := k.isLt
  have e : Shape.reshapeEquiv shapeCasts_S11008x256x4x4_S11008x4096 (ix2 n k)
      = ix4 n ⟨k.val / 16, by omega⟩ ⟨k.val % 16 / 4, by omega⟩ ⟨k.val % 4, by omega⟩ := by
    refine Shape.reshapeEquiv_eq_of_vals _ _ _ _ _ (Shape.rowMajor_val_four _) (Shape.rowMajor_val_two _) ?_
    show ((n.val * 256 + k.val / 16) * 4 + k.val % 16 / 4) * 4 + k.val % 4 = n.val * 4096 + k.val
    omega
  have e1 : unpacked B (ix2 n k) = (fields B (ix4 n ⟨k.val / 16, by omega⟩ ⟨k.val % 16 / 4, by omega⟩ ⟨k.val % 4, by omega⟩)).setWidth 8 :=
    congrArg (fun x => (fields B x).setWidth 8) e
  have e2 : ∀ (g : Fin 256) (i j : Fin 4), fields B (ix4 n g i j)
      = IntOp.andi (IntOp.shrsi .host (groups B (ix4 n g 0 j)) (shifts (ix4 0 0 i 0))) 3#32 := fun g i j => by
    have ea : broadcastInDim S11008x256x4x4 ![0, 1, 2, 3] bcast_S11008x256x1x4_S11008x256x4x4_0_1_2_3 (groups B) (ix4 n g i j) = groups B (ix4 n g 0 j) := by
      refine congrArg (groups B) (funext fun a => ?_)
      match a with
      | ⟨0, _⟩ => rfl
      | ⟨1, _⟩ => rfl
      | ⟨2, _⟩ => rfl
      | ⟨3, _⟩ => rfl
    have eb : broadcastInDim S11008x256x4x4 ![0, 1, 2, 3] bcast_S1x1x4x1_S11008x256x4x4_0_1_2_3 shifts (ix4 n g i j) = shifts (ix4 0 0 i 0) := by
      refine congrArg shifts (funext fun a => ?_)
      match a with
      | ⟨0, _⟩ => rfl
      | ⟨1, _⟩ => rfl
      | ⟨2, _⟩ => rfl
      | ⟨3, _⟩ => rfl
    exact congrArg₂ (fun x y => IntOp.andi (IntOp.shrsi .host x y) 3#32) ea eb
  rw [e1, e2, groups_apply, shifts_apply, byte_field]
  rfl

/-- The reference's result array is the array of the dot products. -/
theorem result_eq (A : IVec S1024x4096 8) (B : IVec S11008x1024 8) : result A B = Sums.dots A B := by
  funext j
  have hr : S1024x11008x4096.Reduces [2] S1024x11008 := by decide
  unfold result
  rw [Host.reduce_eq_fold_single _ _ _ _ hr]
  refine Eq.trans (congrArg (Finset.fold IntOp.addi 0#32 · Finset.univ) (funext fun k : Fin 4096 => ?_))
    (Sums.fold_addi_ofInt Finset.univ fun k : Fin 4096 => (A (ix2 (j 0) k)).toInt * (Sums.weight B (j 1) k).toInt)
  refine Eq.trans ?_ ((congrArg (fun y => IntOp.muli ((A (ix2 (j 0) k)).signExtend 32) (BitVec.signExtend 32 y)) (unpacked_apply B (j 1) k)).trans
    (Sums.muli_signExtend (A (ix2 (j 0) k)) (Sums.weight B (j 1) k)))
  refine congrArg₂ (fun x y => IntOp.muli (BitVec.signExtend 32 x) (BitVec.signExtend 32 y)) (congrArg A (funext fun a => ?_)) (congrArg (unpacked B) (funext fun a => ?_))
  · match a with
    | ⟨0, _⟩ => rfl
    | ⟨1, _⟩ => rfl
  · match a with
    | ⟨0, _⟩ => rfl
    | ⟨1, _⟩ => rfl

end Cert.ReferenceIdeal.Value

end
-- ==== Proof.lean ====
/-
  The proof of `Cert.Claim` (proof/Defs.lean): the three frames, the idealization (which rewrites nothing), and the algebraic
  claim. Both programs' results are the array of integer dot products `Sums.dots` of the activations and the unpacked weights
  (Proof/Value.lean for the kernel, Proof/Reference.lean for the reference).
-/
module

public import proofs.«01_k».proof.Defs
public import proofs.«01_k».proof.Proof.RunKernel
public import proofs.«01_k».proof.Proof.Value
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs, its arguments end unchanged and every counter ends at zero: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results, the arrays of dot products. -/
theorem algebraic : Cert.algebraic_KernelIdeal_ReferenceIdeal := by
  intro m ρ m' ρ' _ hargs
  refine ⟨Cert.IdealRun.res m, (θ_run Cert.KernelIdeal.defs _ _).mono (fun _ h => h.1) (Cert.IdealRun.run m ρ), ?_⟩
  refine (θ_run Cert.ReferenceIdeal.defs _ _).mono (fun r h c => ?_) (Cert.ReferenceIdeal.Value.run (F := Ideal) m' ρ')
  obtain ⟨hv, h0, h1⟩ := h c
  refine ⟨hv.trans ((Cert.ReferenceIdeal.Value.result_eq _ _).trans ?_), h0, h1⟩
  exact congrArg₂ Cert.Sums.dots (hargs c).1 (hargs c).2

theorem claim : Cert.Claim := ⟨Cert.Kernel.Gen.facts, Cert.KernelIdeal.Gen.facts, Cert.ReferenceIdeal.Gen.facts,
  Cert.KernelRun.quiescent, Cert.IdealRun.quiescent, frame_reference, trivial, algebraic⟩

end Cert.Proof

end
